-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)
      ∧ m' ((c.tc : Thread Cert.NormReferenceIdeal.nD Cert.NormReferenceIdeal.τ).loc Cert.NormReferenceIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v8)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v8) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v8) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal (hKernelIdeal := hKernelIdeal) (hReferenceIdeal := hReferenceIdeal)
    ∧ preserves_Norm_NormIdeal
    ∧ algebraic_NormIdeal_NormReferenceIdeal (hNormIdeal := hNormIdeal) (hNormReferenceIdeal := hNormReferenceIdeal)
-- ==== Kernel.lean ====
abbrev S100000x3x128 : Shape := ⟨3, ![100000, 3, 128]⟩
abbrev S128 : Shape := ⟨1, ![128]⟩
abbrev S1x128 : Shape := ⟨2, ![1, 128]⟩
abbrev S3x102400 : Shape := ⟨2, ![3, 102400]⟩
abbrev S2048x3x128 : Shape := ⟨3, ![2048, 3, 128]⟩
abbrev S3x2048 : Shape := ⟨2, ![3, 2048]⟩
abbrev S2048x1x128 : Shape := ⟨3, ![2048, 1, 128]⟩
abbrev S2048x128 : Shape := ⟨2, ![2048, 128]⟩
abbrev S2048 : Shape := ⟨1, ![2048]⟩
abbrev S1x2048 : Shape := ⟨2, ![1, 2048]⟩

abbrev nBuf : Space → Nat
  | .hbm => 4
  | .vmem => 5
  | .smem => 0
  | _ => 0

abbrev bufTy : (tb : Table) → Fin (tcTables nBuf tb) → BufTy
  | .hbm, ⟨0, _⟩ => ⟨S100000x3x128, .f32⟩
  | .hbm, ⟨1, _⟩ => ⟨S128, .f32⟩
  | .hbm, ⟨2, _⟩ => ⟨S1x128, .f32⟩
  | .hbm, ⟨3, _⟩ => ⟨S3x102400, .f32⟩
  | .local _ .vmem, ⟨0, _⟩ => ⟨S2048x3x128, .f32⟩
  | .local _ .vmem, ⟨1, _⟩ => ⟨S2048x3x128, .f32⟩
  | .local _ .vmem, ⟨2, _⟩ => ⟨S1x128, .f32⟩
  | .local _ .vmem, ⟨3, _⟩ => ⟨S3x2048, .f32⟩
  | .local _ .vmem, ⟨4, _⟩ => ⟨S3x2048, .f32⟩
  | _, _ => ⟨S100000x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c48_i32 : BitVec 32 := 48#32
  let v0 : BitVec 32 := Scalar.minsi arg0 c48_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S100000x3x128 : Shape := ⟨3, ![100000, 3, 128]⟩
abbrev S128 : Shape := ⟨1, ![128]⟩
abbrev S100000x3 : Shape := ⟨2, ![100000, 3]⟩
abbrev S3x100000 : Shape := ⟨2, ![3, 100000]⟩
abbrev S_ : Shape := ⟨0, ![]⟩
abbrev S3x102400 : Shape := ⟨2, ![3, 102400]⟩

abbrev nBuf : Space → Nat
  | .hbm => 7
  | .vmem => 0
  | .smem => 0
  | _ => 0

abbrev bufTy : (tb : Table) → Fin (tcTables nBuf tb) → BufTy
  | .hbm, ⟨0, _⟩ => ⟨S100000x3x128, .f32⟩
  | .hbm, ⟨1, _⟩ => ⟨S128, .f32⟩
  | .hbm, ⟨2, _⟩ => ⟨S100000x3, .f32⟩
  | .hbm, ⟨3, _⟩ => ⟨S3x100000, .f32⟩
  | .hbm, ⟨4, _⟩ => ⟨S_, .i32⟩
  | .hbm, ⟨5, _⟩ => ⟨S_, .f32⟩
  | .hbm, ⟨6, _⟩ => ⟨S3x102400, .f32⟩
  | _, _ => ⟨S100000x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Norm.lean ====
abbrev S512 : Shape := ⟨1, ![512]⟩
abbrev S1x512 : Shape := ⟨2, ![1, 512]⟩
abbrev S6x512 : Shape := ⟨2, ![6, 512]⟩
abbrev S2x3x512 : Shape := ⟨3, ![2, 3, 512]⟩
abbrev S1x3x512 : Shape := ⟨3, ![1, 3, 512]⟩
abbrev S3x512 : Shape := ⟨2, ![3, 512]⟩

abbrev nBuf : Space → Nat
  | .hbm => 15
  | .vmem => 2
  | .smem => 0
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S6x512, .f32⟩
  | .hbm, ⟨13, _⟩ => ⟨S2x3x512, .f32⟩
  | .hbm, ⟨14, _⟩ => ⟨S1x512, .f32⟩
  | .local _ .vmem, ⟨0, _⟩ => ⟨S2x3x512, .f32⟩
  | .local _ .vmem, ⟨1, _⟩ => ⟨S1x512, .f32⟩
  | _, _ => ⟨S512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== NormReferenceIdeal.lean ====
abbrev S512 : Shape := ⟨1, ![512]⟩
abbrev S512x1 : Shape := ⟨2, ![512, 1]⟩
abbrev S512x3 : Shape := ⟨2, ![512, 3]⟩
abbrev S_ : Shape := ⟨0, ![]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x1, .f32⟩
  | .hbm, ⟨10, _⟩ => ⟨S512x1, .f32⟩
  | .hbm, ⟨11, _⟩ => ⟨S512x1, .f32⟩
  | .hbm, ⟨12, _⟩ => ⟨S512x3, .f32⟩
  | .hbm, ⟨13, _⟩ => ⟨S512x3, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S1x512, .f32⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Proof.ProjectBody.lean ====
/-
  The projection kernel `_project`, at any float values: what its three windows' staging buffers hold at each point of
  the grid, the body's triple, and the two runs that follow from a body obligation. The grid has fifty points. The
  input window `v` moves blocks of 2048 rows; its index map stops at block 48, whose last rows overhang the array, so
  the fetch there is cut and the rest of the buffer holds words that nothing names. Point 49 stays on block 48 and is
  not fetched again.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.Project

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body reads and writes -/

/-- The rectangle of component `0` of the vectors in a block of `v`, … -/
abbrev rv0 : Rect S2048x3x128 := Rect.unit (s := S2048x3x128) ![0, 0, 0] S2048x1x128.size inb_S2048x3x128_S2048x1x128_0_0_0
/-- … of component `1` … -/
abbrev rv1 : Rect S2048x3x128 := Rect.unit (s := S2048x3x128) ![0, 1, 0] S2048x1x128.size inb_S2048x3x128_S2048x1x128_0_1_0
/-- … and of component `2`. -/
abbrev rv2 : Rect S2048x3x128 := Rect.unit (s := S2048x3x128) ![0, 2, 0] S2048x1x128.size inb_S2048x3x128_S2048x1x128_0_2_0
/-- The weight row, whole. -/
abbrev rw0 : Rect S1x128 := Rect.unit (s := S1x128) ![0, 0] S1x128.size inb_S1x128_S1x128_0_0
/-- The block of the result, whole. -/
abbrev ro0 : Rect S3x2048 := Rect.unit (s := S3x2048) ![0, 0] S3x2048.size inb_S3x2048_S3x2048_0_0

/-- The result's staging buffer after the body at grid coordinates `i`, from what the buffers of `v` (`x`) and of the
    weights (`y`) hold. -/
def outv (i : grid0.Coords) (x : Vec F S2048x3x128 .f32) (y : Vec F S1x128 .f32) : Vec F S3x2048 .f32 :=
  View.canon [⟨ro0, k0_pay1 i (View.ld y rw0) (View.ld x rv0) (View.ld x rv1) (View.ld x rv2)⟩]

/-- The one store covers the buffer. -/
theorem cover_outv (p : Vec F S3x2048 .f32) (y : S3x2048.Idx) :
    ∃ pc ∈ ([⟨ro0, p⟩] : List (View.Piece (Elt F) S3x2048 .f32)), y ∈ pc.1.set :=
  View.cover_of_tiled [⟨ro0, p⟩] S3x2048.size (by rfl) y

set_option maxHeartbeats 1000000 in
/-- The body on whole buffers, `v`'s at `x`, the weights' at `y` and the result's at anything: it leaves the first two
    as they were and the third at `outv` of them. -/
theorem body_triple (c : Dev nD) (E : Set ℕ) (i : grid0.Coords)
    (arg1 : Memref sig .tc .vmem S2048x3x128 .f32) (harg1 : arg1.IsWhole)
    (arg2 : Memref sig .tc .vmem S1x128 .f32) (harg2 : arg2.IsWhole)
    (arg3 : Memref sig .tc .vmem S3x2048 .f32) (harg3 : arg3.IsWhole)
    (x : Vec F S2048x3x128 .f32) (y : Vec F S1x128 .f32) (K : PUnit → sProp 𝕄) :
    iprop(owns (c : Thread nD τ) arg1 fullShare x ∗ owns (c : Thread nD τ) arg2 fullShare y
        ∗ (∃ d, owns (c : Thread nD τ) arg3 fullShare d)
        ∗ (iprop(owns (c : Thread nD τ) arg1 fullShare x ∗ owns (c : Thread nD τ) arg2 fullShare y
            ∗ owns (c : Thread nD τ) arg3 fullShare (outv i x y)) -∗ K ⟨⟩))
      ⊢ wp frame (wpE (defs₀ (F := F)) Variants.none c none) E
          (cc0__project_body i arg1 harg1 arg2 harg2 arg3 harg3) K := by
  simp only [cc0__project_body_eq_skeleton]; unfold cc0__project_body_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_outv _)

/-! ## The proof data -/

/-- Block `t` of `v` as the proof data name it: the rows inside the array, and past the array's end the zero word,
    which nothing reads. -/
def vblk (c : Dev nD) (t : Fin cfg0.N) : Vec F S2048x3x128 .f32 :=
  win0_0.fill (grid0.coords t) (fun _ => Scalar.ofBits .f32 0#32) (iblk m c 0 t)

/-- The proof data of the pipeline on core `c`: the arrays as the region finds them; after the body the inputs' buffers
    at their blocks and the result's at `outv` of them; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => vblk m c t
    | ⟨1, _⟩ => iblk m c 1 t
    | ⟨2, _⟩ => outv (grid0.coords t) (vblk m c t) (iblk m c 1 t)
  Φ _ := Pipeline.ΦA spec0 c
  q _ := fullShare
  owed _ := 0

/-- The arrays of the proof data are the contents the region finds. -/
theorem dats_A (c : Dev nD) (w : Fin cfg0.W) : (dats m 0 c).A w = V m c (Pipeline.arrRef spec0 w) := by
  dsimp only [dats]

/-- After the body `v`'s buffer is at its block, … -/
theorem after_v (c : Dev nD) (t : Fin cfg0.N) : (dats m 0 c).after 0 t = vblk m c t := by dsimp only [dats]
/-- … the weights' buffer at the weights … -/
theorem after_w (c : Dev nD) (t : Fin cfg0.N) : (dats m 0 c).after 1 t = iblk m c 1 t := by dsimp only [dats]
/-- … and the result's at the projections. -/
theorem after_o (c : Dev nD) (t : Fin cfg0.N) :
    (dats m 0 c).after 2 t = outv (grid0.coords t) (vblk m c t) (iblk m c 1 t) := by dsimp only [dats]

/-- The rows inside the array of what the proof data name are the block. -/
theorem cut_vblk (c : Dev nD) (t : Fin cfg0.N) : win0_0.cut (grid0.coords t) (vblk m c t) = iblk m c 0 t :=
  win0_0.cut_fill _ _ _

/-- Before the body `v`'s buffer holds, at every point, the block on the rows inside the array and anything past them:
    fetched there or, at the last point, kept from the point before, whose block is the same one. -/
theorem before_v (c : Dev nD) (t : Fin cfg0.N) (d) :
    (dats m 0 c).before 0 t d = win0_0.fill (grid0.coords t) d (iblk m c 0 t) := by
  have h := (dats m 0 c).before_in_eq_fetched 0 rfl (fun _ => rfl)
    (fun t t' h => by
      funext a
      show Pipeline.Clip.of (win0_0.index t a) _ _ = Pipeline.Clip.of (win0_0.index t' a) _ _
      rw [show win0_0.index t = win0_0.index t' from h])
    (fun t => by
      rw [after_v]
      show win0_0.cut (grid0.coords t) (vblk m c t) = _
      rw [cut_vblk]; unfold Dat.blockOf iblk; rw [dats_A]) t d
  rw [h]
  unfold Dat.fetched Dat.blockOf iblk
  rw [dats_A]

/-- Before the body the weights' buffer holds the weights. -/
theorem before_w (c : Dev nD) (t : Fin cfg0.N) (d) : (dats m 0 c).before 1 t d = iblk m c 1 t :=
  before0_1_of m (dats m 0 c) (dats_A m c 1) (after_w m c) t d

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- `v`'s buffer holding its block with anything past the array's end is what the loose obligation asks of it. -/
theorem leaves_v (c : Dev nD) (t : Fin cfg0.N) (d : S2048x3x128.Idx → Elt F .f32) :
    (owns (c : Thread nD τ) (st0_0 t) fullShare (win0_0.fill (grid0.coords t) d (iblk m c 0 t)) : sProp 𝕄)
      ⊢ iprop(∃ d', owns (c : Thread nD τ) (st0_0 t) fullShare
          (win0_0.fill (grid0.coords t) d' (win0_0.cut (grid0.coords t) ((dats m 0 c).after 0 t)))) := by
  iintro H
  iexists d
  rw [after_v, cut_vblk]
  iexact H

/-- Which windows a frame claim says nothing about: the result's. -/
def fgt : Fin 3 → Bool := ![false, false, true]

/-- The body obligation that says nothing of the result's buffer: at any float values. -/
theorem obligation_forget (c : Dev nD) :
    BodyObligationLoose (dats (F := F) m 0 c) (defs₀ (F := F)) Variants.none () Set.univ fgt := fun t => by
  rw [bigSep_W0, bigSep_W0, defs₀_row]
  simp only [show fgt 0 = false from rfl, show fgt 1 = false from rfl, show fgt 2 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_v m c t d0, before_w m c t d1]
  unfold bodyAt0
  iapply (body_triple (F := F) c Set.univ (grid0.coords t) _ _ _ _ _ _ _ _ _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]; · iapply (leaves_v m c t d0); iexact H0
  isplitl [H1]; · rw [after_w]; iexact H1
  iexists _; iexact H2

/-! ## The frame, at any float values -/

-- the launch theorem's implicit arguments are found by unifying its conclusion with this one, which takes unfolding plain
-- definitions in a metavariable's type
set_option backward.isDefEq.respectTransparency.types false in
set_option maxHeartbeats 800000 in
/-- Every weakly fair execution of the projection program ends with the inputs' arrays at what the region found, every
    buffer outside the pipeline likewise, and every semaphore counter at zero. -/
theorem run_forget : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := obligation_forget m) (hshare := fun c => (dats m 0 c).share_full fun _ => rfl)
    (howed := fun _ _ => rfl) (V := V m) (hmain := hmain m Variants.none) (hA := dats_A m) (hΦ := fun _ _ => rfl)

/-- The frame of the projection program at any float values: it ends, its two arguments end as they were launched and
    every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
      ⟨((h.1.arr_in c 0 rfl).trans (dats_A m c 0)).trans (V_main_arg0 m c),
        ((h.1 c).2 main_arg1 (Pipeline.mem_restRefs_of main_arg1 (by decide) (by decide))).trans (V_main_arg1 m c)⟩, h.2⟩)
    (run_forget m ρ)

end Cert.Project

end
-- ==== Proof.ProjectPayload.lean ====
/-
  What the projection kernel's body stores, read at an index at the ideal instance.
-/
module

public import proofs.«01_k».proof.Proof.ProjectBody
public import Idealize.ShloMosaic.Lib.Pointwise
public import Idealize.ShloMosaic.Lib.Pipeline.Value

@[expose] public section

set_option maxRecDepth 16384

noncomputable section

namespace Cert.Project

open Cert.KernelIdeal Cert.KernelIdeal.Gen
open Idealize.ShloMosaic

/-- The block that the body stores, at component `a` and row `n`: the inner product of that row with the weights where the
    row of the padded array is one of the 100000, and zero past them. -/
theorem outv_apply (i : grid0.Coords) (x : Vec Ideal S2048x3x128 .f32) (y : Vec Ideal S1x128 .f32)
    (a : Fin 3) (n : Fin 2048) :
    outv i x y (ix2 a n)
      = if 2048 * (i 0).val + n.val < 100000 then ∑ k : Fin 128, x (ix3 n a k) * y (ix2 0 k) else (0 : EReal) := by
  unfold outv
  rw [View.canon_unit_zero (by funext b; fin_cases b <;> rfl)]
  pointwise [k0_pay1]
  have hi : (i 0).val < 50 := (i 0).isLt
  rw [show IntOp.addi (BitVec.ofNat 32 n.val) (Scalar.muli (BitVec.ofNat 32 (i 0).val) 2048#32)
      = BitVec.ofNat 32 (2048 * (i 0).val + n.val) from ?_, WordCmp.cmpi_slt_ofNat (by omega) (by omega)]
  · simp only [Scalar.select_decide]
    split
    · fin_cases a <;> rfl
    · rfl
  · apply BitVec.eq_of_toNat_eq
    simp only [IntOp.addi, Scalar.muli, IntOp.muli, BitVec.toNat_add, BitVec.toNat_mul, BitVec.toNat_ofNat]
    omega

end Cert.Project

end
-- ==== Proof.ProjectValue.lean ====
/-
  The projection program at the ideal instance: the array that its fifty points leave, as one function of its two
  arguments. Only the rows inside the array reach the result, whatever the rest of the input's buffer holds, so the body
  obligation names the result's buffer.
-/
module

public import proofs.«01_k».proof.Proof.ProjectPayload
public import Idealize.ShloMosaic.Lib.Pipeline.ValueKit

@[expose] public section

set_option maxRecDepth 16384

noncomputable section

namespace Cert.Project

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable (m : (ℓ : Loc nD τ sig) → Buf (Elt Ideal) ℓ) (ρ : Dev nD → PrngReg)

local notation "𝕄" => MT nD τ sig Unit (Elt Ideal) ℕ (UR sig nD τ) ℕ

/-! ## The windows' places -/

/-- The grid's only coordinate is the point. -/
theorem coord_val : ∀ t : Fin cfg0.N, (grid0.coords t 0).val = t.val :=
  (by decide +kernel : ∀ t : Fin grid0.N, (grid0.coords t 0).val = t.val)

/-- Block of `v` at point `t`: `t`, but at most 48. -/
theorem index_v : ∀ t : Fin cfg0.N, win0_0.index t = ![min t.val 48, 0, 0] :=
  (by decide +kernel : ∀ t : Fin grid0.N, win0_0.index t = ![min t.val 48, 0, 0])

/-- Block of the result at point `t`: `t`. -/
theorem index_o : ∀ t : Fin cfg0.N, win0_2.index t = ![0, t.val] :=
  (by decide +kernel : ∀ t : Fin grid0.N, win0_2.index t = ![0, t.val])

/-- How many rows of the block at point `t` lie inside the array. -/
theorem xsize_v : ∀ t : Fin cfg0.N, win0_0.xsize (grid0.coords t) = ![min 2048 (100000 - 2048 * min t.val 48), 3, 128] :=
  (by decide +kernel : ∀ t : Fin grid0.N, win0_0.xsize (grid0.coords t) = ![min 2048 (100000 - 2048 * min t.val 48), 3, 128])

/-- A row of the padded array that is one of the 100000 is read from `v`, whatever the buffer held before the fetch. -/
theorem fill_row (c : Dev nD) (t : Fin cfg0.N) (d : S2048x3x128.Idx → Elt Ideal .f32) (n : Fin 2048) (a : Fin 3) (k : Fin 128)
    (h : 2048 * t.val + n.val < 100000) :
    win0_0.fill (grid0.coords t) d (iblk m c 0 t) (ix3 n a k)
      = m ((c : Thread nD τ).loc main_arg0) (ix3 ⟨2048 * t.val + n.val, h⟩ a k) := by
  have hm : win0_0.moved (grid0.coords t) (ix3 n a k) = true := by
    rw [Window.moved_iff, xsize_v]
    intro b
    fin_cases b
    · show n.val < min 2048 (100000 - 2048 * min t.val 48)
      have := n.isLt; omega
    · exact a.isLt
    · exact k.isLt
  unfold Window.fill
  rw [dif_pos hm]
  have hV : V m c (Pipeline.arrRef spec0 0) = m ((c : Thread nD τ).loc main_arg0) := V_main_arg0 m c
  unfold iblk
  rw [hV]
  have hi := index_v t
  have hk : min t.val 48 = t.val := by omega
  blk_ext [hi, hk]

/-- The weights' row, as the host code lays it out for the call. -/
theorem V_row (c : Dev nD) (k : Fin 128) :
    (V m c main_v0 : Vec Ideal S1x128 .f32) (ix2 0 k) = m ((c : Thread nD τ).loc main_arg1) (ix1 k) := by
  have h : (V m c main_v0 : Vec Ideal S1x128 .f32)
      = shapeCast S1x128 (m ((c : Thread nD τ).loc main_arg1) : Vec Ideal S128 .f32) shapeCasts_S128_S1x128 := by
    show StableHlo.after hostOps0 (fun b => m (c, b)) main_v0 = _
    simp only [hostOps0]
    after_results
    rfl
  rw [h]
  pointwise

/-- The weights' block is the argument. -/
theorem weights (c : Dev nD) (t : Fin cfg0.N) (k : Fin 128) :
    iblk m c 1 t (ix2 0 k) = m ((c : Thread nD τ).loc main_arg1) (ix1 k) := by
  rw [← V_row m c k]
  have hi : win0_1.index t = ![0, 0] :=
    (by decide +kernel : ∀ t : Fin grid0.N, win0_1.index t = ![0, 0]) t
  blk_ext [iblk, hi]

/-- The projections as one function of the arguments, padded with zeros. -/
def G (x : Vec Ideal S100000x3x128 .f32) (w : Vec Ideal S128 .f32) : Vec Ideal S3x102400 .f32 := fun j =>
  if h : (j 1).val < 100000 then ∑ k : Fin 128, x (ix3 ⟨(j 1).val, h⟩ (j 0) k) * w (ix1 k) else (0 : EReal)

/-- `G` at a row of the arguments, … -/
theorem G_in (x : Vec Ideal S100000x3x128 .f32) (w : Vec Ideal S128 .f32) (a : Fin 3) (n : Fin 102400) (h : n.val < 100000) :
    G x w (ix2 a n) = ∑ k : Fin 128, x (ix3 ⟨n.val, h⟩ a k) * w (ix1 k) := dif_pos h

/-- … and past them. -/
theorem G_out (x : Vec Ideal S100000x3x128 .f32) (w : Vec Ideal S128 .f32) (a : Fin 3) (n : Fin 102400) (h : ¬n.val < 100000) :
    G x w (ix2 a n) = (0 : EReal) := dif_neg h

/-- What the body leaves at point `t`, whatever the buffer of `v` held past the array's end. -/
theorem outv_fill (c : Dev nD) (t : Fin cfg0.N) (d : S2048x3x128.Idx → Elt Ideal .f32) (a : Fin 3) (n : Fin 2048)
    (hb : 2048 * t.val + n.val < 102400) :
    outv (grid0.coords t) (win0_0.fill (grid0.coords t) d (iblk m c 0 t)) (iblk m c 1 t) (ix2 a n)
      = G (m ((c : Thread nD τ).loc main_arg0)) (m ((c : Thread nD τ).loc main_arg1)) (ix2 a ⟨2048 * t.val + n.val, hb⟩) := by
  rw [outv_apply, coord_val]
  by_cases h : 2048 * t.val + n.val < 100000
  · rw [if_pos h, G_in _ _ _ _ h]
    refine Finset.sum_congr rfl fun k _ => ?_
    rw [fill_row m c t d n a k h, weights]
  · rw [if_neg h, G_out _ _ _ _ h]

/-- So the words past the array's end do not reach the result. -/
theorem outv_fill_eq (c : Dev nD) (t : Fin cfg0.N) (d : S2048x3x128.Idx → Elt Ideal .f32) :
    outv (grid0.coords t) (win0_0.fill (grid0.coords t) d (iblk m c 0 t)) (iblk m c 1 t)
      = outv (grid0.coords t) (vblk m c t) (iblk m c 1 t) := by
  funext j
  have hj : j = ix2 (j 0) (j 1) := by funext b; fin_cases b <;> rfl
  have ht : t.val < 50 := t.isLt
  have hn : (j 1).val < 2048 := (j 1).isLt
  rw [hj]
  exact (outv_fill m c t d (j 0) (j 1) (by omega)).trans (outv_fill m c t _ (j 0) (j 1) (by omega)).symm

/-! ## The run -/

/-- The body obligation that names the result's buffer. -/
theorem obligation (c : Dev nD) :
    BodyObligationLoose (dats (F := Ideal) m 0 c) (defs₀ (F := Ideal)) Variants.none () Set.univ := fun t => by
  rw [bigSep_W0, bigSep_W0, defs₀_row]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_v m c t d0, before_w m c t d1]
  unfold bodyAt0
  iapply (body_triple (F := Ideal) c Set.univ (grid0.coords t) _ _ _ _ _ _ _ _ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iapply (leaves_v m c t d0); iexact H0
  isplitl [H1]; · rw [after_w]; iexact H1
  rw [after_o, ← outv_fill_eq m c t d0]
  iexact H2

-- as for the run at any float values
set_option backward.isDefEq.respectTransparency.types false in
set_option maxHeartbeats 800000 in
/-- The run with the result's array named. -/
theorem run_named : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := dats_A m) (hΦ := fun _ _ => rfl)

/-- The result's array after the run: fifty blocks, each written once, cover it. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after_o]
  have ht : t.val < 50 := t.isLt
  have hn : (y 1).val < 2048 := (y 1).isLt
  have hy : y = ix2 (n0 := 3) (n1 := 2048) (y 0) (y 1) := by funext b; fin_cases b <;> rfl
  have he : (win0_2.blk t).view.emb y = ix2 (n0 := 3) (n1 := 102400) (y 0) ⟨2048 * t.val + (y 1).val, by omega⟩ := by
    have hi := index_o t
    blk_ext [hi]
  rw [he]
  exact (congrArg _ hy).trans (outv_fill m c t _ (y 0) (y 1) (by omega))

/-- The projection program ends with its result at `G` of its arguments, which it leaves unchanged. -/
theorem run_value : θ_run defs (onTc (τ := τ) (main (F := Ideal))) ⟨m, fun _ => 0, ρ⟩ (fun r => ∀ c : Dev nD,
      r.2.mem ((c.tc : Thread nD τ).loc main_v1) = G (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c),
      (((h.1 c).1 0).trans ((dats m 0 c).arrAt_in 0 rfl _)).trans ((dats_A m c 0).trans (V_main_arg0 m c)),
      ((h.1 c).2 main_arg1 (Pipeline.mem_restRefs_of main_arg1 (by decide) (by decide))).trans (V_main_arg1 m c)⟩)
    (run_named m ρ)

end Cert.Project

end
-- ==== Proof.ProjectClaim.lean ====
/-
  The projection program against its reference at the ideal instance: the einsum of the two arguments, transposed and
  padded with zeros to 102400 columns.
-/
module

public import proofs.«01_k».proof.Proof.ProjectValue
public import proofs.«01_k».proof.Proof.Gen.ReferenceIdeal.Run
public import proofs.«01_k».proof.Defs

@[expose] public section

set_option maxRecDepth 16384

noncomputable section

namespace Cert.Project

open Idealize.ShloMosaic Idealize.ShloMosaic.TcCoe Idealize.SL.Sem

section Reference

open Cert.ReferenceIdeal Cert.ReferenceIdeal.Gen

/-- The reference's composed term: the einsum, transposed and padded. -/
abbrev refTerm (x : Vec Ideal S100000x3x128 .f32) (w : Vec Ideal S128 .f32) : Vec Ideal S3x102400 .f32 :=
  pad S3x102400 ![0, 0] ![0, 2400] ![0, 0]
    (transpose S3x100000 [1, 0]
      (Host.dotGeneral (F := Ideal) (φ₁ := .f32) (φ₂ := .f32) dot_S100000x3x128_S128_S100000x3_2_0_01_n_n_n none x w)
      transposes_S100000x3_S3x100000_1_0)
    (sitofp (F := Ideal) .f32 (constantI S_ 32 0#32)) pads_S3x100000_S3x102400_000_024000 h_S_

/-- The reference's padded einsum at an index. -/
theorem reference_apply (x : Vec Ideal S100000x3x128 .f32) (w : Vec Ideal S128 .f32) (a : Fin 3) (n : Fin 102400) :
    refTerm x w (ix2 a n) = G x w (ix2 a n) := by
  unfold refTerm
  pointwise
  by_cases h : n.val < 100000
  · rw [dif_pos h, G_in _ _ _ _ h]
  · rw [dif_neg h, G_out _ _ _ _ h]
    show (((0#32 : BitVec 32).toInt : ℝ) : EReal) = 0
    simp

/-- The reference's padded einsum is `G`. -/
theorem reference_eq (x : Vec Ideal S100000x3x128 .f32) (w : Vec Ideal S128 .f32) : refTerm x w = G x w := by
  funext j
  have hj : j = ix2 (n0 := 3) (n1 := 102400) (j 0) (j 1) := by funext b; fin_cases b <;> rfl
  rw [hj]
  exact reference_apply x w (j 0) (j 1)

end Reference

/-- From memories that agree on `v` and `w`, the projection program and its reference end with equal results. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨fun c => G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), run_value m g, ?_⟩
  refine (θ_run Cert.ReferenceIdeal.defs _ _).mono (fun r h c => ⟨(h c).1.trans ?_, (h c).2⟩)
    (Cert.ReferenceIdeal.Value.run m' g')
  rw [(hargs c).1, (hargs c).2]
  exact reference_eq _ _

end Cert.Project

end
-- ==== Proof.NormValue.lean ====
/-
  The norm program at the ideal instance: its one block, read index by index from the six partial sums.
-/
module

public import proofs.«01_k».proof.Proof.Gen.NormIdeal.Value
public import proofs.«01_k».proof.Proof.Gen.NormReferenceIdeal.Run
public import proofs.«01_k».proof.Defs
public import Idealize.ShloMosaic.Lib.Pointwise
public import Idealize.ShloMosaic.Lib.Pipeline.ValueKit

@[expose] public section

set_option maxRecDepth 16384

noncomputable section

namespace Cert.NormValue

open Idealize.ShloMosaic Idealize.ShloMosaic.TcCoe Idealize.SL.Sem

/-- The length of the vector of three sums `p + p'`, molecule by molecule. -/
def G (p0 p1 p2 q0 q1 q2 : Vec Ideal ⟨1, ![512]⟩ .f32) : Vec Ideal ⟨2, ![1, 512]⟩ .f32 := fun j =>
  Ideal.sqrt (((p0 (ix1 (j 1)) + q0 (ix1 (j 1))) * (p0 (ix1 (j 1)) + q0 (ix1 (j 1)))
    + (p1 (ix1 (j 1)) + q1 (ix1 (j 1))) * (p1 (ix1 (j 1)) + q1 (ix1 (j 1)))
    + (p2 (ix1 (j 1)) + q2 (ix1 (j 1))) * (p2 (ix1 (j 1)) + q2 (ix1 (j 1))) : EReal))

open Cert.NormReferenceIdeal Cert.NormReferenceIdeal.Gen in
/-- The reference's norm along the last axis of the stacked sums is `G`. -/
theorem reference_eq (p0 p1 p2 q0 q1 q2 : Vec Ideal S512 .f32) :
  (broadcastInDim S1x512 ![1] bcast_S512_S1x512_1 (Host.sqrt (Host.reduceAdd (mulf
    (concatenate S512x3 1 [⟨S512x1, broadcastInDim S512x1 ![0] bcast_S512_S512x1_0 (addf p0 q0)⟩, ⟨S512x1, broadcastInDim S512x1 ![0] bcast_S512_S512x1_0 (addf p1 q1)⟩,
     ⟨S512x1, broadcastInDim S512x1 ![0] bcast_S512_S512x1_0 (addf p2 q2)⟩] concatenates_S512x1_S512x1_S512x1_S512x3_d1)
    (concatenate S512x3 1 [⟨S512x1, broadcastInDim S512x1 ![0] bcast_S512_S512x1_0 (addf p0 q0)⟩, ⟨S512x1, broadcastInDim S512x1 ![0] bcast_S512_S512x1_0 (addf p1 q1)⟩,
     ⟨S512x1, broadcastInDim S512x1 ![0] bcast_S512_S512x1_0 (addf p2 q2)⟩] concatenates_S512x1_S512x1_S512x1_S512x3_d1))
    (constant (F := Ideal) S_ .f32 0x00000000#32) reducesTo_S512x3_S512_d1 h_S_)) : Vec Ideal S1x512 .f32) = G p0 p1 p2 q0 q1 q2 := by
  funext j
  rw [show j = ix2 (n0 := 1) (n1 := 512) (j 0) (j 1) by funext b; fin_cases b <;> rfl]
  generalize (j 0 : Fin 1) = a
  generalize (j 1 : Fin 512) = n
  pointwise [G]
  rw [Fin.sum_univ_three]
  rfl

open Cert.NormIdeal Cert.NormIdeal.Gen in
/-- What the body stores, at a molecule, from the two cores' partial sums. -/
theorem out_apply (x : Vec Ideal S2x3x512 .f32) (n : Fin 512) :
    out0_1 x (ix2 0 n) = Ideal.sqrt
      ((x (ix3 0 0 n) + x (ix3 1 0 n)) * (x (ix3 0 0 n) + x (ix3 1 0 n))
        + (x (ix3 0 1 n) + x (ix3 1 1 n)) * (x (ix3 0 1 n) + x (ix3 1 1 n))
        + (x (ix3 0 2 n) + x (ix3 1 2 n)) * (x (ix3 0 2 n) + x (ix3 1 2 n)) : EReal) := by
  unfold out0_1
  rw [View.canon_unit_zero (by funext b; fin_cases b <;> rfl)]
  pointwise [k0_pay1]

open Cert.NormIdeal Cert.NormIdeal.Gen in
/-- If the body's operand holds, for core `p` and component `a`, the sums `P p a`, then it stores `G` of them. -/
theorem out_eq_G (x : Vec Ideal S2x3x512 .f32) (P : Fin 2 → Fin 3 → Vec Ideal S512 .f32)
    (hx : ∀ p a n, x (ix3 p a n) = P p a (ix1 n)) (n : Fin 512) :
    out0_1 x (ix2 0 n) = G (P 0 0) (P 0 1) (P 0 2) (P 1 0) (P 1 1) (P 1 2) (ix2 0 n) := by
  rw [out_apply]
  simp only [hx]
  rfl

open Cert.NormIdeal Cert.NormIdeal.Gen in
/-- The stacked partial sums, as the host code lays them out for the call: core `p`, component `a`. -/
theorem V_parts (m : (ℓ : Loc nD τ sig) → Buf (Elt Ideal) ℓ) (c : Dev nD) (p : Fin 2) (a : Fin 3) (n : Fin 512) :
    (V m c main_v7 : Vec Ideal S2x3x512 .f32) (ix3 p a n)
      = (![![m ((c : Thread nD τ).loc main_arg0), m ((c : Thread nD τ).loc main_arg1), m ((c : Thread nD τ).loc main_arg2)],
          ![m ((c : Thread nD τ).loc main_arg3), m ((c : Thread nD τ).loc main_arg4), m ((c : Thread nD τ).loc main_arg5)]] p a
            : Vec Ideal S512 .f32) (ix1 n) := by
  have h : (V m c main_v7 : Vec Ideal S2x3x512 .f32)
      = shapeCast S2x3x512 (concatenate S6x512 0
          [⟨S1x512, broadcastInDim S1x512 ![1] bcast_S512_S1x512_1 (m ((c : Thread nD τ).loc main_arg0) : Vec Ideal S512 .f32)⟩,
           ⟨S1x512, broadcastInDim S1x512 ![1] bcast_S512_S1x512_1 (m ((c : Thread nD τ).loc main_arg1) : Vec Ideal S512 .f32)⟩,
           ⟨S1x512, broadcastInDim S1x512 ![1] bcast_S512_S1x512_1 (m ((c : Thread nD τ).loc main_arg2) : Vec Ideal S512 .f32)⟩,
           ⟨S1x512, broadcastInDim S1x512 ![1] bcast_S512_S1x512_1 (m ((c : Thread nD τ).loc main_arg3) : Vec Ideal S512 .f32)⟩,
           ⟨S1x512, broadcastInDim S1x512 ![1] bcast_S512_S1x512_1 (m ((c : Thread nD τ).loc main_arg4) : Vec Ideal S512 .f32)⟩,
           ⟨S1x512, broadcastInDim S1x512 ![1] bcast_S512_S1x512_1 (m ((c : Thread nD τ).loc main_arg5) : Vec Ideal S512 .f32)⟩]
          concatenates_S1x512_S1x512_S1x512_S1x512_S1x512_S1x512_S6x512_d0) shapeCasts_S6x512_S2x3x512 := by
    show StableHlo.after hostOps0 (fun b => m (c, b)) main_v7 = _
    simp only [hostOps0]
    after_results
    rfl
  rw [h]
  fin_cases p <;> fin_cases a <;> pointwise <;> rfl

open Cert.NormIdeal Cert.NormIdeal.Gen in
/-- The result's array after the run: the one block is the array. -/
theorem final (m : (ℓ : Loc nD τ sig) → Buf (Elt Ideal) ℓ) (c : Dev nD) :
    (dats m 0 c).arrAt 1 cfg0.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 1 _ (by decide +kernel) fun t hf y => ?_
  blk_simp
  rw [after0_1]
  have hy : y = ix2 (n0 := 1) (n1 := 512) 0 (y 1) := by
    funext b; fin_cases b
    · exact Subsingleton.elim (α := Fin 1) _ _
    · rfl
  have he : (win0_1.blk t).view.emb y = ix2 (n0 := 1) (n1 := 512) 0 (y 1) := by
    have hi : win0_1.index t = ![0, 0] :=
      (by decide +kernel : ∀ t : Fin grid0.N, win0_1.index t = ![0, 0]) t
    blk_ext [hi]
  have hx (p : Fin 2) (a : Fin 3) (n : Fin 512) :
      iblk m c 0 t (ix3 p a n) = (V m c main_v7 : Vec Ideal S2x3x512 .f32) (ix3 p a n) := by
    have hi : win0_0.index t = ![0, 0, 0] :=
      (by decide +kernel : ∀ t : Fin grid0.N, win0_0.index t = ![0, 0, 0]) t
    blk_ext [iblk, hi]
  rw [he]
  exact (congrArg _ hy).trans (out_eq_G _ _ (fun p a n => (hx p a n).trans (V_parts m c p a n)) (y 1))

/-- From memories that agree on the six partial sums, the norm program and its reference end with equal results. -/
theorem algebraic : Cert.algebraic_NormIdeal_NormReferenceIdeal
    (hNormIdeal := Cert.NormIdeal.Gen.facts) (hNormReferenceIdeal := Cert.NormReferenceIdeal.Gen.facts) := by
  intro m g m' g' _ hargs
  refine ⟨fun c => G (m ((c.tc : Thread Cert.NormIdeal.nD Cert.NormIdeal.τ).loc Cert.NormIdeal.main_arg0))
    (m ((c.tc : Thread Cert.NormIdeal.nD Cert.NormIdeal.τ).loc Cert.NormIdeal.main_arg1))
    (m ((c.tc : Thread Cert.NormIdeal.nD Cert.NormIdeal.τ).loc Cert.NormIdeal.main_arg2))
    (m ((c.tc : Thread Cert.NormIdeal.nD Cert.NormIdeal.τ).loc Cert.NormIdeal.main_arg3))
    (m ((c.tc : Thread Cert.NormIdeal.nD Cert.NormIdeal.τ).loc Cert.NormIdeal.main_arg4))
    (m ((c.tc : Thread Cert.NormIdeal.nD Cert.NormIdeal.τ).loc Cert.NormIdeal.main_arg5)), ?_, ?_⟩
  · exact (θ_run Cert.NormIdeal.defs _ _).mono (fun r h c => ⟨(h c).1.trans (final m c), (h c).2⟩)
      (Cert.NormIdeal.Value.run_blocks m g)
  · refine (θ_run Cert.NormReferenceIdeal.defs _ _).mono (fun r h c => ⟨(h c).1.trans ?_, (h c).2⟩)
      (Cert.NormReferenceIdeal.Value.run m' g')
    obtain ⟨h0, h1, h2, h3, h4, h5⟩ := hargs c
    rw [h0, h1, h2, h3, h4, h5]
    exact reference_eq _ _ _ _ _ _

end Cert.NormValue

end
-- ==== Proof.lean ====
module

public import proofs.«01_k».proof.Proof.ProjectClaim
public import proofs.«01_k».proof.Proof.NormValue
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame

public import proofs.«01_k».proof.Proof.Gen.ReferenceIdeal
public import proofs.«01_k».proof.Proof.Gen.ReferenceIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The two projection programs have one kernel function in their tables. -/
theorem defs₀_eq : Cert.Kernel.defs₀ (F := Bits) = Cert.KernelIdeal.defs₀ (F := Bits) := by
  unfold Cert.Kernel.defs₀ Cert.KernelIdeal.defs₀
  refine congrArg (Defs.onTc (nD := Cert.KernelIdeal.nD)) (funext fun l => funext fun a => ?_)
  match l, a with
  | 0, (_, _) => rfl

/-- So their body tables, pipelines included, are equal. -/
theorem defs_eq : Cert.Kernel.defs (F := Bits) = Cert.KernelIdeal.defs (F := Bits) :=
  congrArg (Pipeline.defs (Cert.KernelIdeal.pcfgs (F := Bits))) defs₀_eq

/-- The projection program ends, with its arguments unchanged and every semaphore counter at zero. Its printed text is the
    ideal program's, whose run is proved at any float values. -/
theorem frame_kernel : Cert.quiescent_Kernel (hKernel := Cert.Kernel.Gen.facts) := by
  intro m ρ _
  rw [defs_eq]
  exact Cert.Project.frame (F := Bits) m ρ

/-- So does the ideal projection program. -/
theorem frame_kernel_ideal : Cert.quiescent_KernelIdeal (hKernelIdeal := Cert.KernelIdeal.Gen.facts) :=
  fun m ρ _ => Cert.Project.frame (F := Ideal) m ρ

/-- So does the projection's reference, which declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- So does the norm's reference. -/
theorem frame_norm_reference : Cert.quiescent_NormReferenceIdeal (hNormReferenceIdeal := Cert.NormReferenceIdeal.Gen.facts) :=
  fun m ρ _ => (θ_run Cert.NormReferenceIdeal.defs _ _).mono
    (fun r h => ⟨fun c => (h c).2, sem_eq_zero_of_no_sems (by decide) r.2⟩) (Cert.NormReferenceIdeal.Value.run m ρ)

/-- Frames of the six programs, and for the projection and the norm that the ideal program is the kernel's and computes
    what its reference does. -/
theorem claim : Cert.Claim :=
  ⟨Cert.Kernel.Gen.facts, Cert.KernelIdeal.Gen.facts, Cert.ReferenceIdeal.Gen.facts, Cert.Norm.Gen.facts,
    Cert.NormIdeal.Gen.facts, Cert.NormReferenceIdeal.Gen.facts,
    frame_kernel, frame_kernel_ideal, frame_reference,
    fun m ρ _ => Cert.Norm.Gen.frame m ρ, fun m ρ _ => Cert.NormIdeal.Gen.frame m ρ, frame_norm_reference,
    trivial, Cert.Project.algebraic, trivial, Cert.NormValue.algebraic⟩

end Cert.Proof

end
